-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S4096x200x64 : Shape := ⟨3, ![4096, 200, 64]⟩
abbrev S200x64 : Shape := ⟨2, ![200, 64]⟩
abbrev S32x200 : Shape := ⟨2, ![32, 200]⟩
abbrev S32x200x64 : Shape := ⟨3, ![32, 200, 64]⟩
abbrev S1x200x64 : Shape := ⟨3, ![1, 200, 64]⟩
abbrev S32x200x1 : Shape := ⟨3, ![32, 200, 1]⟩
abbrev S4096x200x1 : Shape := ⟨3, ![4096, 200, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x200, .i32⟩
  | .hbm, ⟨1, _⟩ => ⟨S4096x200x64, .f32⟩
  | .hbm, ⟨2, _⟩ => ⟨S200x64, .f32⟩
  | .hbm, ⟨3, _⟩ => ⟨S4096x200x64, .f32⟩
  | .hbm, ⟨4, _⟩ => ⟨S4096x200, .f32⟩
  | .hbm, ⟨5, _⟩ => ⟨S4096x200x1, .f32⟩
  | .local _ .vmem, ⟨0, _⟩ => ⟨S32x200, .i32⟩
  | .local _ .vmem, ⟨1, _⟩ => ⟨S32x200, .i32⟩
  | .local _ .vmem, ⟨2, _⟩ => ⟨S32x200x64, .f32⟩
  | .local _ .vmem, ⟨3, _⟩ => ⟨S32x200x64, .f32⟩
  | .local _ .vmem, ⟨4, _⟩ => ⟨S200x64, .f32⟩
  | .local _ .vmem, ⟨5, _⟩ => ⟨S32x200x64, .f32⟩
  | .local _ .vmem, ⟨6, _⟩ => ⟨S32x200x64, .f32⟩
  | .local _ .vmem, ⟨7, _⟩ => ⟨S32x200, .f32⟩
  | .local _ .vmem, ⟨8, _⟩ => ⟨S32x200, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x200 : Shape := ⟨2, ![4096, 200]⟩
abbrev S4096x200x64 : Shape := ⟨3, ![4096, 200, 64]⟩
abbrev S200x64 : Shape := ⟨2, ![200, 64]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x64 : Shape := ⟨3, ![1, 200, 64]⟩
abbrev S4096x200x1 : Shape := ⟨3, ![4096, 200, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200x64, .f32⟩
  | .hbm, ⟨2, _⟩ => ⟨S200x64, .f32⟩
  | .hbm, ⟨3, _⟩ => ⟨S200, .i32⟩
  | .hbm, ⟨4, _⟩ => ⟨S_, .i32⟩
  | .hbm, ⟨5, _⟩ => ⟨S200, .i32⟩
  | .hbm, ⟨6, _⟩ => ⟨S200, .i1⟩
  | .hbm, ⟨7, _⟩ => ⟨S_, .i32⟩
  | .hbm, ⟨8, _⟩ => ⟨S200, .i32⟩
  | .hbm, ⟨9, _⟩ => ⟨S200, .i32⟩
  | .hbm, ⟨10, _⟩ => ⟨S200, .i32⟩
  | .hbm, ⟨11, _⟩ => ⟨S200x1, .i32⟩
  | .hbm, ⟨12, _⟩ => ⟨S1, .i32⟩
  | .hbm, ⟨13, _⟩ => ⟨S_, .i32⟩
  | .hbm, ⟨14, _⟩ => ⟨S200x1, .i32⟩
  | .hbm, ⟨15, _⟩ => ⟨S200x1, .i1⟩
  | .hbm, ⟨16, _⟩ => ⟨S1x1, .i32⟩
  | .hbm, ⟨17, _⟩ => ⟨S200x1, .i32⟩
  | .hbm, ⟨18, _⟩ => ⟨S200x1, .i1⟩
  | .hbm, ⟨19, _⟩ => ⟨S200x1, .i1⟩
  | .hbm, ⟨20, _⟩ => ⟨S_, .i1⟩
  | .hbm, ⟨21, _⟩ => ⟨S200, .i1⟩
  | .hbm, ⟨22, _⟩ => ⟨S200x64, .f32⟩
  | .hbm, ⟨23, _⟩ => ⟨S200x64, .i1⟩
  | .hbm, ⟨24, _⟩ => ⟨S_, .f32⟩
  | .hbm, ⟨25, _⟩ => ⟨S200x64, .f32⟩
  | .hbm, ⟨26, _⟩ => ⟨S200x64, .f32⟩
  | .hbm, ⟨27, _⟩ => ⟨S_, .f32⟩
  | .hbm, ⟨28, _⟩ => ⟨S4096x200x64, .f32⟩
  | .hbm, ⟨29, _⟩ => ⟨S4096x200x64, .f32⟩
  | .hbm, ⟨30, _⟩ => ⟨S1x200x64, .f32⟩
  | .hbm, ⟨31, _⟩ => ⟨S4096x200x64, .f32⟩
  | .hbm, ⟨32, _⟩ => ⟨S4096x200x64, .f32⟩
  | .hbm, ⟨33, _⟩ => ⟨S_, .i32⟩
  | .hbm, ⟨34, _⟩ => ⟨S4096x200, .i32⟩
  | .hbm, ⟨35, _⟩ => ⟨S4096x200, .i1⟩
  | .hbm, ⟨36, _⟩ => ⟨S4096x200x1, .i1⟩
  | .hbm, ⟨37, _⟩ => ⟨S4096x200x1, .f32⟩
  | .hbm, ⟨38, _⟩ => ⟨S4096x200x64, .f32⟩
  | .hbm, ⟨39, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Proof.Embed.lean ====
/-
  The mathematics that the kernel and the reference share: a sequence embedding is scaled by 8, the row of the
  positional table for its place in the sequence is added, and the sum is multiplied by the flag "this id is not 0".
  Here are the two result arrays as functions of an index, for any float values, and the few facts about reshapes,
  broadcasts and the lookup of consecutive rows that either program needs to be read at an index. Nothing here names
  a program.
-/
module

public import Idealize.ShloMosaic.PureOps
public import Idealize.ShloMosaic.PureOps.Ideal
public import Idealize.ShloMosaic.Lib.Pipeline.Value
public import Idealize.ShloMosaic.Lib.ValueIdxCore
public import Idealize.ShloMosaic.Lib.Routing.Ops
public import Idealize.ShloMosaic.Lib.ReduceAll

@[expose] public section

noncomputable section

namespace Cert.Embed

open Idealize.ShloMosaic Idealize.ShloMosaic.ValueIdx

variable {F : FTy → Type} [FloatOps F]

/-! ## The two results -/

/-- The ids, the embeddings and the positional table; the embeddings' shape is also the first result's. -/
abbrev IdShape : Shape := ⟨2, ![4096, 200]⟩
abbrev EmbShape : Shape := ⟨3, ![4096, 200, 64]⟩
abbrev PosShape : Shape := ⟨2, ![200, 64]⟩
/-- The second result's shape. -/
abbrev FlagShape : Shape := ⟨3, ![4096, 200, 1]⟩

/-- The flag of one id: 1 where it is not the padding id 0, else 0. -/
def flag (x : BitVec 32) : F .f32 := FloatOps.uitofp .f32 (IntOp.cmpi .ne x 0#32)

/-- One element of the first result, from its id, its embedding and its entry of the positional table:
    the embedding times 8 (the square root of the 64 features), plus the table's entry, times the id's flag. -/
def element (id : BitVec 32) (e p : F .f32) : F .f32 :=
  FloatOps.mulf (FloatOps.addf (FloatOps.mulf e (FloatOps.ofBits .f32 0x41000000#32)) p) (flag id)

/-- The first result: entry `(b, n, d)` from id `(b, n)`, embedding `(b, n, d)` and table entry `(n, d)`. -/
def embedded (ids : IVec IdShape 32) (emb : FVec F EmbShape .f32) (pos : FVec F PosShape .f32) : FVec F EmbShape .f32 :=
  fun i => element (ids (ix2 (i 0) (i 1))) (emb i) (pos (ix2 (i 1) (i 2)))

/-- The flags as the two-axis array that the kernel writes. -/
def flags (ids : IVec IdShape 32) : FVec F IdShape .f32 := fun i => flag (ids i)

/-- The second result: the flags with a unit axis at the end. -/
def flags3 (ids : IVec IdShape 32) : FVec F FlagShape .f32 := fun i => flag (ids (ix2 (i 0) (i 1)))

/-! ## A one-bit word as a float -/

/-- Converting a one-bit word to f32 by widening it to 32 bits and reading it signed gives what reading it unsigned
    gives. -/
def BitConverts (F : FTy → Type) [FloatOps F] : Prop :=
  ∀ b : BitVec 1, (FloatOps.sitofp .f32 (b.setWidth 32) : F .f32) = FloatOps.uitofp .f32 b

/-- The signed value of the widened bit is the bit's unsigned value. -/
theorem toInt_setWidth (b : BitVec 1) : (b.setWidth 32).toInt = (b.toNat : Int) := by
  revert b; decide

/-- Over the extended reals it does: both are the bit's value, 0 or 1. -/
theorem bitConverts_ideal : BitConverts Ideal := fun b => by
  show (((b.setWidth 32).toInt : ℝ) : EReal) = ((b.toNat : ℝ) : EReal)
  rw [toInt_setWidth, Int.cast_natCast]

/-! ## Reshapes and broadcasts at an index, at any extents -/

section Layout
variable {α : Type} {B N D : Nat}

/-- A table laid under a new leading axis and repeated along it: entry `(b, n, d)` is the table's `(n, d)`. -/
theorem table_repeated (x : (⟨2, ![N, D]⟩ : Shape).Idx → α) (h₁ : (⟨2, ![N, D]⟩ : Shape).ShapeCasts ⟨3, ![1, N, D]⟩)
    (h₂ : (⟨3, ![1, N, D]⟩ : Shape).Broadcasts ⟨3, ![B, N, D]⟩) (b : Fin B) (n : Fin N) (d : Fin D) :
    broadcastTo ⟨3, ![B, N, D]⟩ (shapeCast ⟨3, ![1, N, D]⟩ x h₁) h₂ (ix3 b n d) = x (ix2 n d) := by
  refine (broadcastTo_apply _ h₂ _ (ix3 (0 : Fin 1) n d) fun a => ?_).trans
    (shapeCast_apply _ h₁ _ (ix2 n d) ?_)
  · have hn := n.isLt; have hd := d.isLt
    match a with
    | ⟨0, _⟩ => rfl
    | ⟨1, _⟩ =>
      show n.val = if N = 1 then 0 else n.val
      split <;> omega
    | ⟨2, _⟩ =>
      show d.val = if D = 1 then 0 else d.val
      split <;> omega
  · rw [Shape.rowMajor_val_two, Shape.rowMajor_val_three]
    show n.val * D + d.val = (0 * N + n.val) * D + d.val
    rw [Nat.zero_mul, Nat.zero_add]

/-- A two-axis array given a trailing unit axis and repeated along it: entry `(b, n, d)` is the array's `(b, n)`. -/
theorem column_repeated (x : (⟨2, ![B, N]⟩ : Shape).Idx → α) (h₁ : (⟨2, ![B, N]⟩ : Shape).ShapeCasts ⟨3, ![B, N, 1]⟩)
    (h₂ : (⟨3, ![B, N, 1]⟩ : Shape).Broadcasts ⟨3, ![B, N, D]⟩) (b : Fin B) (n : Fin N) (d : Fin D) :
    broadcastTo ⟨3, ![B, N, D]⟩ (shapeCast ⟨3, ![B, N, 1]⟩ x h₁) h₂ (ix3 b n d) = x (ix2 b n) := by
  refine (broadcastTo_apply _ h₂ _ (ix3 b n (0 : Fin 1)) fun a => ?_).trans
    (shapeCast_apply _ h₁ _ (ix2 b n) ?_)
  · have hb := b.isLt; have hn := n.isLt
    match a with
    | ⟨0, _⟩ =>
      show b.val = if B = 1 then 0 else b.val
      split <;> omega
    | ⟨1, _⟩ =>
      show n.val = if N = 1 then 0 else n.val
      split <;> omega
    | ⟨2, _⟩ => rfl
  · rw [Shape.rowMajor_val_two, Shape.rowMajor_val_three]
    show b.val * N + n.val = (b.val * N + n.val) * 1 + 0
    omega

/-- The host's form of a trailing unit axis: entry `(b, n, 0)` is the array's `(b, n)`. -/
theorem host_column (x : (⟨2, ![B, N]⟩ : Shape).Idx → α)
    (h : (⟨2, ![B, N]⟩ : Shape).BroadcastsInDim ⟨3, ![B, N, 1]⟩ (![0, 1] : Fin 2 → Fin 3)) (b : Fin B) (n : Fin N) (z : Fin 1) :
    broadcastInDim ⟨3, ![B, N, 1]⟩ ![0, 1] h x (ix3 b n z) = x (ix2 b n) := by
  refine broadcastInDim_apply _ h _ _ (ix2 b n) fun a => ?_
  have hb := b.isLt; have hn := n.isLt
  match a with
  | ⟨0, _⟩ =>
    show b.val = if B = 1 then 0 else b.val
    split <;> omega
  | ⟨1, _⟩ =>
    show n.val = if N = 1 then 0 else n.val
    split <;> omega

/-- The host's repetition of a trailing unit axis: entry `(b, n, d)` is the operand's `(b, n, 0)`. -/
theorem host_column_repeated (x : (⟨3, ![B, N, 1]⟩ : Shape).Idx → α)
    (h : (⟨3, ![B, N, 1]⟩ : Shape).BroadcastsInDim ⟨3, ![B, N, D]⟩ (![0, 1, 2] : Fin 3 → Fin 3)) (b : Fin B) (n : Fin N) (d : Fin D) :
    broadcastInDim ⟨3, ![B, N, D]⟩ ![0, 1, 2] h x (ix3 b n d) = x (ix3 b n (0 : Fin 1)) := by
  refine broadcastInDim_apply _ h _ _ (ix3 b n (0 : Fin 1)) fun a => ?_
  have hb := b.isLt; have hn := n.isLt
  match a with
  | ⟨0, _⟩ =>
    show b.val = if B = 1 then 0 else b.val
    split <;> omega
  | ⟨1, _⟩ =>
    show n.val = if N = 1 then 0 else n.val
    split <;> omega
  | ⟨2, _⟩ => rfl

/-- The host's table under a new leading axis, repeated along it: entry `(b, n, d)` is the table's `(n, d)`. -/
theorem host_table_repeated (x : (⟨2, ![N, D]⟩ : Shape).Idx → α)
    (h₁ : (⟨2, ![N, D]⟩ : Shape).BroadcastsInDim ⟨3, ![1, N, D]⟩ (![1, 2] : Fin 2 → Fin 3))
    (h₂ : (⟨3, ![1, N, D]⟩ : Shape).BroadcastsInDim ⟨3, ![B, N, D]⟩ (![0, 1, 2] : Fin 3 → Fin 3)) (b : Fin B) (n : Fin N) (d : Fin D) :
    broadcastInDim ⟨3, ![B, N, D]⟩ ![0, 1, 2] h₂ (broadcastInDim ⟨3, ![1, N, D]⟩ ![1, 2] h₁ x) (ix3 b n d) = x (ix2 n d) := by
  have hn := n.isLt; have hd := d.isLt
  refine (broadcastInDim_apply _ h₂ _ _ (ix3 (0 : Fin 1) n d) fun a => ?_).trans
    (broadcastInDim_apply _ h₁ _ _ (ix2 n d) fun a => ?_)
  · match a with
    | ⟨0, _⟩ => rfl
    | ⟨1, _⟩ =>
      show n.val = if N = 1 then 0 else n.val
      split <;> omega
    | ⟨2, _⟩ =>
      show d.val = if D = 1 then 0 else d.val
      split <;> omega
  · match a with
    | ⟨0, _⟩ =>
      show n.val = if N = 1 then 0 else n.val
      split <;> omega
    | ⟨1, _⟩ =>
      show d.val = if D = 1 then 0 else d.val
      split <;> omega

end Layout

/-! ## The lookup of the rows 0, 1, …, 199 of a table of 200 rows -/

section Lookup

/-- A row number below 200 is not negative as a 32-bit word, so wrapping negative numbers round leaves it; and it
    lies between 0 and 199, so no row is out of the table. -/
theorem row_in_table : ∀ n : Fin 200, IntOp.cmpi .slt (BitVec.ofNat 32 n.val) 0#32 = 0#1
    ∧ IntOp.andi (IntOp.cmpi .sge (BitVec.ofNat 32 n.val) 0#32) (IntOp.cmpi .sle (BitVec.ofNat 32 n.val) 199#32) = 1#1 := by
  decide +kernel

variable (h₀ : (⟨0, ![]⟩ : Shape).BroadcastsInDim ⟨1, ![200]⟩ (![] : Fin 0 → Fin 1))
  (hcol : (⟨1, ![200]⟩ : Shape).BroadcastsInDim ⟨2, ![200, 1]⟩ (![0] : Fin 1 → Fin 2))

/-- The positions 0 … 199, a negative one wrapped round by 200, as the column that the lookup takes. -/
def positions : IVec ⟨2, ![200, 1]⟩ 32 :=
  broadcastInDim ⟨2, ![200, 1]⟩ ![0] hcol
    (select (cmpi .slt (iotaInDim ⟨1, ![200]⟩ 32 0) (broadcastInDim ⟨1, ![200]⟩ ![] h₀ (constantI ⟨0, ![]⟩ 32 0#32)))
      (addi (iotaInDim ⟨1, ![200]⟩ 32 0) (broadcastInDim ⟨1, ![200]⟩ ![] h₀ (constantI ⟨0, ![]⟩ 32 200#32)))
      (iotaInDim ⟨1, ![200]⟩ 32 0))

/-- Position `n` is the word `n`. -/
theorem positions_apply (n : Fin 200) (z : Fin 1) : positions h₀ hcol (ix2 n z) = BitVec.ofNat 32 n.val := by
  unfold positions
  refine (broadcastInDim_apply _ hcol _ _ (ix1 n) fun a => ?_).trans ?_
  · match a with | ⟨0, _⟩ => rfl
  · show Scalar.select (IntOp.cmpi .slt (BitVec.ofNat 32 n.val) 0#32) _ (BitVec.ofNat 32 n.val) = _
    rw [(row_in_table n).1]
    rfl

variable (hz : (⟨0, ![]⟩ : Shape).BroadcastsInDim ⟨2, ![200, 1]⟩ (![] : Fin 0 → Fin 2))
  (h1 : (⟨1, ![1]⟩ : Shape).BroadcastsInDim ⟨2, ![1, 1]⟩ (![1] : Fin 1 → Fin 2))
  (h11 : (⟨2, ![1, 1]⟩ : Shape).BroadcastsInDim ⟨2, ![200, 1]⟩ (![0, 1] : Fin 2 → Fin 2))
  (hred : (⟨2, ![200, 1]⟩ : Shape).ReducesTo [1] ⟨1, ![200]⟩) (hpos : 0 < (⟨0, ![]⟩ : Shape).numel)

/-- Which positions are rows of the table: those from 0 to 199. -/
def inTable : IVec ⟨1, ![200]⟩ 1 :=
  Host.reduce IntOp.andi
    (andi (cmpi .sge (positions h₀ hcol) (broadcastInDim ⟨2, ![200, 1]⟩ ![] hz (constantI ⟨0, ![]⟩ 32 0#32)))
      (cmpi .sle (positions h₀ hcol)
        (broadcastInDim ⟨2, ![200, 1]⟩ ![0, 1] h11 (broadcastInDim ⟨2, ![1, 1]⟩ ![1] h1 (constantI ⟨1, ![1]⟩ 32 199#32)))))
    (constantI ⟨0, ![]⟩ 1 1#1) hred hpos

/-- All are. -/
theorem inTable_apply (j : (⟨1, ![200]⟩ : Shape).Idx) : inTable h₀ hcol hz h1 h11 hred hpos j = 1#1 := by
  unfold inTable
  refine Host.reduce_andi_one _ _ hred hpos j rfl fun i => ?_
  obtain ⟨n, z, rfl⟩ : ∃ n z, i = ix2 n z := ⟨i 0, i 1, eq_ix2 i⟩
  show IntOp.andi (IntOp.cmpi .sge (positions h₀ hcol (ix2 n z)) 0#32) (IntOp.cmpi .sle (positions h₀ hcol (ix2 n z)) 199#32) = 1#1
  rw [positions_apply]
  exact (row_in_table n).2

variable (hmask : (⟨1, ![200]⟩ : Shape).BroadcastsInDim ⟨2, ![200, 64]⟩ (![0] : Fin 1 → Fin 2))
  (hfill : (⟨0, ![]⟩ : Shape).BroadcastsInDim ⟨2, ![200, 64]⟩ (![] : Fin 0 → Fin 2))
  (d : GatherDims ⟨2, ![200, 64]⟩ ⟨2, ![200, 1]⟩ ⟨2, ![200, 64]⟩)

/-- The lookup as the host spells it: the gathered rows where the position is in the table, and not-a-number
    elsewhere. -/
def looked (pos : FVec F PosShape .f32) : FVec F PosShape .f32 :=
  select (broadcastInDim ⟨2, ![200, 64]⟩ ![0] hmask (inTable h₀ hcol hz h1 h11 hred hpos))
    (Host.gather d pos (positions h₀ hcol))
    (broadcastInDim ⟨2, ![200, 64]⟩ ![] hfill (constant ⟨0, ![]⟩ .f32 0x7FC00000#32))

/-- Looking the rows 0 … 199 up in order gives the table back. -/
theorem looked_eq (hoff : d.offsetDims = [1]) (hcoll : d.collapsedSliceDims = [0]) (hob : d.operandBatchingDims = [])
    (hsim : d.startIndexMap = [0]) (hivd : d.indexVectorDim = 1) (pos : FVec F PosShape .f32) :
    looked h₀ hcol hz h1 h11 hred hpos hmask hfill d pos = pos := by
  funext i
  obtain ⟨n, c, rfl⟩ : ∃ n c, i = ix2 n c := ⟨i 0, i 1, eq_ix2 i⟩
  unfold looked
  show Scalar.select (broadcastInDim ⟨2, ![200, 64]⟩ ![0] hmask (inTable h₀ hcol hz h1 h11 hred hpos) (ix2 n c))
    (Host.gather d pos (positions h₀ hcol) (ix2 n c)) _ = _
  rw [broadcastInDim_apply _ hmask _ _ (ix1 n) (fun a => by match a with | ⟨0, _⟩ => rfl), inTable_apply]
  exact Routing.gather_row d hoff hcoll hob hsim hivd pos (positions h₀ hcol) n c n (positions_apply h₀ hcol n 0) (by decide)

end Lookup

end Cert.Embed

end
-- ==== Proof.KernelIdealValue.lean ====
/-
  What the idealized kernel's run leaves in its two results. Point `t` of the grid writes sequences `32 t` to
  `32 t + 31` of both arrays; every such block is the block of one function of the whole arguments, and the 128 blocks
  fill the arrays. The host line after the region gives the flags their trailing unit axis.
-/
module

public import proofs.«01_k».proof.Proof.Gen.KernelIdeal.Frame
public import proofs.«01_k».proof.Proof.Embed
public import Idealize.ShloMosaic.Lib.Pipeline.ValueKit
public import Idealize.ShloMosaic.Lib.StableHlo.Run

@[expose] public section

noncomputable section

namespace Cert.KernelIdeal.Results

open Cert.KernelIdeal Cert.KernelIdeal.Gen Cert.Embed
open Idealize.ShloMosaic hiding ix2 ix3 eq_ix2 eq_ix3
open Idealize.ShloMosaic.TcCoe Idealize.ShloMosaic.ValueIdx Idealize.SL.Sem

variable {F : FTy → Type} [FloatOps F]

/-! ## One block -/

/-- A list of zeros as the constant 0, as the rules for loads and stores of whole buffers take it. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The flags that the body computes from a block of ids, at an index. -/
theorem flags_at (hb : BitConverts F) (ids : Vec F S32x200 .i32) (i : S32x200.Idx) : k0_pay1 ids i = flag (ids i) :=
  hb (IntOp.cmpi .ne (ids i) 0#32)

/-- The sums that the body computes from its three blocks, at an index. -/
theorem sums_at (hb : BitConverts F) (ids : Vec F S32x200 .i32) (emb : Vec F S32x200x64 .f32) (pos : Vec F S200x64 .f32)
    (b : Fin 32) (n : Fin 200) (d : Fin 64) :
    k0_pay2 ids emb pos (ix3 b n d) = element (ids (ix2 b n)) (emb (ix3 b n d)) (pos (ix2 n d)) := by
  show FloatOps.mulf (FloatOps.addf (FloatOps.mulf (emb (ix3 b n d)) (FloatOps.ofBits .f32 0x41000000#32))
      (broadcastTo S32x200x64 (shapeCast S1x200x64 pos shapeCasts_S200x64_S1x200x64) broadcasts_S1x200x64_S32x200x64 (ix3 b n d)))
      (broadcastTo S32x200x64 (shapeCast S32x200x1 (k0_pay1 ids) shapeCasts_S32x200_S32x200x1) broadcasts_S32x200x1_S32x200x64 (ix3 b n d)) = _
  rw [table_repeated, column_repeated, flags_at hb]
  rfl

/-- The body's store into the first result's buffer is the payload of the three blocks. -/
theorem out_sums (ids : Vec F S32x200 .i32) (emb : Vec F S32x200x64 .f32) (pos : Vec F S200x64 .f32) :
    out0_3 ids emb pos = k0_pay2 ids emb pos := by
  unfold out0_3
  rw [View.canon_unit_zero zeros3, View.ld_unit_zero zeros2, View.ld_unit_zero zeros3, View.ld_unit_zero zeros2]

/-- The body's store into the second result's buffer is the payload of the ids' block. -/
theorem out_flags (ids : Vec F S32x200 .i32) (emb : Vec F S32x200x64 .f32) (pos : Vec F S200x64 .f32) :
    out0_4 ids emb pos = k0_pay1 ids := by
  unfold out0_4
  rw [View.canon_unit_zero zeros2, View.ld_unit_zero zeros2]

/-! ## The arrays after the grid -/

variable (m : (ℓ : Loc nD τ sig) → Buf (Elt F) ℓ) (ρ : Dev nD → PrngReg)

/-- The first result as a function of the arguments on device `c`, -/
abbrev sums (c : Dev nD) : Buf (Elt F) ((c : Thread nD τ).loc main_v0_0) :=
  embedded (m ((c : Thread nD τ).loc main_arg0)) (m ((c : Thread nD τ).loc main_arg1)) (m ((c : Thread nD τ).loc main_arg2))
/-- the flags as the region writes them, -/
abbrev flat (c : Dev nD) : Buf (Elt F) ((c : Thread nD τ).loc main_v0_1) := flags (m ((c : Thread nD τ).loc main_arg0))
/-- and the second result. -/
abbrev column (c : Dev nD) : Buf (Elt F) ((c : Thread nD τ).loc main_v1) := flags3 (m ((c : Thread nD τ).loc main_arg0))

/-- Where the windows' blocks lie: point `t` takes the `t`-th block of 32 sequences of the ids, -/
theorem index0 (t : Fin cfg0.N) : win0_0.index t = ![t.val, 0] := by
  revert t; decide +kernel
/-- of the embeddings, -/
theorem index1 (t : Fin cfg0.N) : win0_1.index t = ![t.val, 0, 0] := by
  revert t; decide +kernel
/-- the whole positional table, -/
theorem index2 (t : Fin cfg0.N) : win0_2.index t = ![0, 0] := rfl
/-- and the `t`-th block of both results. -/
theorem index3 (t : Fin cfg0.N) : win0_3.index t = ![t.val, 0, 0] := index1 t
theorem index4 (t : Fin cfg0.N) : win0_4.index t = ![t.val, 0] := index0 t

/-- Row `b` of point `t`'s block is sequence `32 t + b`. -/
def sequence (t : Fin cfg0.N) (b : Fin 32) : Fin 4096 :=
  ⟨t.val * 32 + b.val, by have ht : t.val < 128 := t.isLt; omega⟩

/-- The block of the first result at an index, in the whole array. -/
theorem place3 (t : Fin cfg0.N) (b : Fin 32) (n : Fin 200) (d : Fin 64) :
    ((cfg0.win 3).blk t).view.emb (ix3 b n d) = ix3 (sequence t b) n d := by
  funext a
  match a with
  | ⟨0, _⟩ => exact Fin.ext ((win0_3.rect_emb_val t _ 0).trans (by rw [index3]; rfl))
  | ⟨1, _⟩ => exact Fin.ext ((win0_3.rect_emb_val t _ 1).trans (by rw [index3]; exact Nat.zero_add _))
  | ⟨2, _⟩ => exact Fin.ext ((win0_3.rect_emb_val t _ 2).trans (by rw [index3]; exact Nat.zero_add _))

/-- The embeddings' block is placed as the first result's. -/
theorem emb_block (c : Dev nD) (t : Fin cfg0.N) (b : Fin 32) (n : Fin 200) (d : Fin 64) :
    iblk m c 1 t (ix3 b n d) = m ((c : Thread nD τ).loc main_arg1) (ix3 (sequence t b) n d) :=
  congrArg (m ((c : Thread nD τ).loc main_arg1)) (place3 t b n d)

/-- The block of the flags at an index, in the whole array. -/
theorem place4 (t : Fin cfg0.N) (b : Fin 32) (n : Fin 200) :
    ((cfg0.win 4).blk t).view.emb (ix2 b n) = ix2 (sequence t b) n := by
  funext a
  match a with
  | ⟨0, _⟩ => exact Fin.ext ((win0_4.rect_emb_val t _ 0).trans (by rw [index4]; rfl))
  | ⟨1, _⟩ => exact Fin.ext ((win0_4.rect_emb_val t _ 1).trans (by rw [index4]; exact Nat.zero_add _))

/-- The ids' block is placed as the flags'. -/
theorem ids_block (c : Dev nD) (t : Fin cfg0.N) (b : Fin 32) (n : Fin 200) :
    iblk m c 0 t (ix2 b n) = m ((c : Thread nD τ).loc main_arg0) (ix2 (sequence t b) n) :=
  congrArg (m ((c : Thread nD τ).loc main_arg0)) (place4 t b n)

/-- The positional table's block is the table. -/
theorem pos_block (c : Dev nD) (t : Fin cfg0.N) (n : Fin 200) (d : Fin 64) :
    iblk m c 2 t (ix2 n d) = m ((c : Thread nD τ).loc main_arg2) (ix2 n d) := by
  refine congrArg (m ((c : Thread nD τ).loc main_arg2)) (funext fun a => ?_)
  match a with
  | ⟨0, _⟩ => exact Fin.ext ((win0_2.rect_emb_val t _ 0).trans (by rw [index2]; exact Nat.zero_add _))
  | ⟨1, _⟩ => exact Fin.ext ((win0_2.rect_emb_val t _ 1).trans (by rw [index2]; exact Nat.zero_add _))

/-- The region leaves the sums in the first result. -/
theorem sums_final (hb : BitConverts F) (c : Dev nD) : (dats m 0 c).arrAt 3 (cfgs 0).N = sums m c := by
  refine (dats m 0 c).arrAt_eq_of_covers 3 _ (by decide +kernel) fun t hf y => ?_
  blk_simp
  rw [after0_3, out_sums]
  obtain ⟨b, n, d, rfl⟩ : ∃ (b : Fin 32) (n : Fin 200) (d : Fin 64), y = ix3 b n d := ⟨y 0, y 1, y 2, eq_ix3 y⟩
  refine (sums_at hb _ _ _ b n d).trans ?_
  rw [ids_block, emb_block, pos_block]
  exact (congrArg (sums m c) (place3 t b n d)).symm

/-- The region leaves the flags in the second. -/
theorem flat_final (hb : BitConverts F) (c : Dev nD) : (dats m 0 c).arrAt 4 (cfgs 0).N = flat m c := by
  refine (dats m 0 c).arrAt_eq_of_covers 4 _ (by decide +kernel) fun t hf y => ?_
  blk_simp
  rw [after0_4, out_flags]
  exact flags_at hb _ y

/-! ## The host line after the region, and the run -/

/-- The trailing unit axis over the flags. -/
theorem column_of_flat (c : Dev nD) :
    broadcastInDim S4096x200x1 ![0, 1] bcast_S4096x200_S4096x200x1_0_1 (flat m c) = column m c := by
  funext i
  obtain ⟨b, n, z, rfl⟩ : ∃ (b : Fin 4096) (n : Fin 200) (z : Fin 1), i = ix3 b n z := ⟨i 0, i 1, i 2, eq_ix3 i⟩
  exact host_column _ _ b n z

/-- What the host line leaves in the second result's buffer. -/
theorem tail_column (hb : BitConverts F) (c : Dev nD) :
    Pipeline.afterTail₀ cfgs (dats m) 0 (V0 m) [hostOps1] c main_v1 = column m c := by
  have harr : (Pipeline.withArrays spec0 c (V0 m c) fun w => (dats m 0 c).arrAt w (cfgs 0).N) (Proc.devRef .tc main_v0_1)
      = flat m c :=
    (Pipeline.withArrays_arr spec0 launch0.win.arr_inj c (V0 m c) (fun w => (dats m 0 c).arrAt w (cfgs 0).N) 4).trans
      (flat_final m hb c)
  show StableHlo.after hostOps1 (Pipeline.withArrays spec0 c (V0 m c) fun w => (dats m 0 c).arrAt w (cfgs 0).N)
    (Proc.devRef .tc main_v1) = _
  after_results
  exact (congrArg (fun x => broadcastInDim S4096x200x1 ![0, 1] bcast_S4096x200_S4096x200x1_0_1 x) harr).trans (column_of_flat m c)

/-- The run leaves the two results and keeps the arguments. -/
theorem run (hb : BitConverts F) : θ_run defs (onTc (τ := τ) (main (F := F))) (s₀ m ρ) fun r => ∀ c : Dev nD,
    r.2.mem ((c : Thread nD τ).loc main_v0_0) = sums m c ∧ r.2.mem ((c : Thread nD τ).loc main_v1) = column m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c =>
    ⟨(h.out_eq c 3).trans (sums_final m hb c), (h.rest_eq c main_v1 (by decide)).trans (tail_column m hb c),
      h.in_eq c 0 rfl, h.in_eq c 1 rfl, h.in_eq c 2 rfl⟩) (run_main m ρ)

end Cert.KernelIdeal.Results

end
-- ==== Proof.ReferenceIdealValue.lean ====
/-
  What the idealized reference leaves in its two results: the same two functions of the arguments as the kernel. Its
  lookup of the positions 0 to 199 returns the positional table itself.
-/
module

public import proofs.«01_k».proof.Proof.Gen.ReferenceIdeal.Run
public import proofs.«01_k».proof.Proof.Embed

@[expose] public section

noncomputable section

namespace Cert.ReferenceIdeal.Results

open Cert.ReferenceIdeal Cert.ReferenceIdeal.Gen Cert.Embed
open Idealize.ShloMosaic Idealize.ShloMosaic.TcCoe Idealize.ShloMosaic.ValueIdx Idealize.SL.Sem

variable {F : FTy → Type} [FloatOps F]

/-- The flags as the reference computes them: with the trailing axis before the conversion. -/
abbrev hostFlags (ids : IVec IdShape 32) : FVec F FlagShape .f32 :=
  uitofp .f32 (broadcastInDim S4096x200x1 ![0, 1] bcast_S4096x200_S4096x200x1_0_1
    (cmpi .ne ids (broadcastInDim S4096x200 ![] bcast_S_S4096x200 (constantI S_ 32 0#32))))

/-- At an index they are the id's flag. -/
theorem hostFlags_at (ids : IVec IdShape 32) (b : Fin 4096) (n : Fin 200) (z : Fin 1) :
    hostFlags (F := F) ids (ix3 b n z) = flag (ids (ix2 b n)) :=
  congrArg (FloatOps.uitofp .f32) (host_column _ bcast_S4096x200_S4096x200x1_0_1 b n z)

/-- They are the second result. -/
theorem hostFlags_eq (ids : IVec IdShape 32) : hostFlags (F := F) ids = flags3 ids := by
  funext i
  obtain ⟨b, n, z, rfl⟩ : ∃ (b : Fin 4096) (n : Fin 200) (z : Fin 1), i = ix3 b n z := ⟨i 0, i 1, i 2, eq_ix3 i⟩
  exact hostFlags_at ids b n z

/-- The table as the reference looks it up. -/
abbrev hostTable (pos : FVec F PosShape .f32) : FVec F PosShape .f32 :=
  looked bcast_S_S200 bcast_S200_S200x1_0 bcast_S_S200x1 bcast_S1_S1x1_1 bcast_S1x1_S200x1_0_1 reducesTo_S200x1_S200_d1 h_S_
    bcast_S200_S200x64_0 bcast_S_S200x64 gather_S200x64_S200x1_S200x64_1_0_n_n_0_1_164 pos

/-- The sums as the reference computes them. -/
abbrev hostSums (ids : IVec IdShape 32) (emb : FVec F EmbShape .f32) (pos : FVec F PosShape .f32) : FVec F EmbShape .f32 :=
  mulf (addf (mulf emb (broadcastInDim S4096x200x64 ![] bcast_S_S4096x200x64 (constant S_ .f32 0x41000000#32)))
      (broadcastInDim S4096x200x64 ![0, 1, 2] bcast_S1x200x64_S4096x200x64_0_1_2
        (broadcastInDim S1x200x64 ![1, 2] bcast_S200x64_S1x200x64_1_2 (hostTable pos))))
    (broadcastInDim S4096x200x64 ![0, 1, 2] bcast_S4096x200x1_S4096x200x64_0_1_2 (hostFlags ids))

/-- They are the first result. -/
theorem hostSums_eq (ids : IVec IdShape 32) (emb : FVec F EmbShape .f32) (pos : FVec F PosShape .f32) :
    hostSums ids emb pos = embedded ids emb pos := by
  funext i
  obtain ⟨b, n, d, rfl⟩ : ∃ (b : Fin 4096) (n : Fin 200) (d : Fin 64), i = ix3 b n d := ⟨i 0, i 1, i 2, eq_ix3 i⟩
  unfold hostSums hostTable
  rw [looked_eq (hoff := rfl) (hcoll := rfl) (hob := rfl) (hsim := rfl) (hivd := rfl)]
  show FloatOps.mulf (FloatOps.addf (FloatOps.mulf (emb (ix3 b n d)) (FloatOps.ofBits .f32 0x41000000#32))
      (broadcastInDim S4096x200x64 ![0, 1, 2] bcast_S1x200x64_S4096x200x64_0_1_2
        (broadcastInDim S1x200x64 ![1, 2] bcast_S200x64_S1x200x64_1_2 pos) (ix3 b n d)))
      (broadcastInDim S4096x200x64 ![0, 1, 2] bcast_S4096x200x1_S4096x200x64_0_1_2 (hostFlags ids) (ix3 b n d)) = _
  rw [host_table_repeated, host_column_repeated, hostFlags_at]
  rfl

variable (m : (ℓ : Loc nD τ sig) → Buf (Elt F) ℓ) (ρ : Dev nD → PrngReg)

/-- The run leaves the two results and keeps the arguments. -/
theorem run : θ_run defs (onTc (τ := τ) (main (F := F))) ⟨m, fun _ => 0, ρ⟩ fun r => ∀ c : Dev nD,
    r.2.mem ((c : Thread nD τ).loc main_v12)
      = embedded (m ((c : Thread nD τ).loc main_arg0)) (m ((c : Thread nD τ).loc main_arg1)) (m ((c : Thread nD τ).loc main_arg2))
    ∧ r.2.mem ((c : Thread nD τ).loc main_v10) = flags3 (m ((c : Thread nD τ).loc main_arg0))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (hostSums_eq _ _ _), (h c).2.1.trans (hostFlags_eq _), (h c).2.2⟩)
    (Cert.ReferenceIdeal.Value.run m ρ)

end Cert.ReferenceIdeal.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealValue
public import proofs.«01_k».proof.Proof.ReferenceIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore to leave set. -/
theorem frame_reference : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Results.run m ρ)

/-- Over the extended reals the kernel and the reference leave the same two results: the sums and the flags, each one
    function of the arguments. -/
theorem equal : Cert.algebraic_KernelIdeal_ReferenceIdeal := fun m g m' g' _ hargs => by
  refine ⟨Cert.KernelIdeal.Results.sums m, Cert.KernelIdeal.Results.column m,
    Cert.KernelIdeal.Results.run m g Cert.Embed.bitConverts_ideal,
    (θ_run _ _ _).mono (fun r h c => ?_) (Cert.ReferenceIdeal.Results.run m' g')⟩
  obtain ⟨hsums, hflags, hkept⟩ := h c
  obtain ⟨e0, e1, e2⟩ := hargs c
  refine ⟨hsums.trans ?_, hflags.trans ?_, hkept⟩
  · rw [e0, e1, e2]
  · rw [e0]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal⟩

end Cert.Proof

end
